-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "mean" .f32 0x35E38E39#32 ((589824⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x576x1024 : Shape := ⟨3, ![64, 576, 1024]⟩
abbrev S64x1024 : Shape := ⟨2, ![64, 1024]⟩
abbrev S100x1024 : Shape := ⟨2, ![100, 1024]⟩
abbrev S100 : Shape := ⟨1, ![100]⟩
abbrev S_ : Shape := ⟨0, ![]⟩
abbrev S1x100 : Shape := ⟨2, ![1, 100]⟩
abbrev S1x1 : Shape := ⟨2, ![1, 1]⟩
abbrev S64x100 : Shape := ⟨2, ![64, 100]⟩
abbrev S4x576x512 : Shape := ⟨3, ![4, 576, 512]⟩
abbrev S8x100 : Shape := ⟨2, ![8, 100]⟩
abbrev S2304x512 : Shape := ⟨2, ![2304, 512]⟩
abbrev S1x1024 : Shape := ⟨2, ![1, 1024]⟩
abbrev S101x1024 : Shape := ⟨2, ![101, 1024]⟩
abbrev S101x512 : Shape := ⟨2, ![101, 512]⟩
abbrev S2304x101 : Shape := ⟨2, ![2304, 101]⟩
abbrev S2304x100 : Shape := ⟨2, ![2304, 100]⟩
abbrev S2304x1 : Shape := ⟨2, ![2304, 1]⟩
abbrev S4x576x100 : Shape := ⟨3, ![4, 576, 100]⟩
abbrev S4x100 : Shape := ⟨2, ![4, 100]⟩
abbrev S8x1024 : Shape := ⟨2, ![8, 1024]⟩

abbrev nBuf : Space → Nat
  | .hbm => 11
  | .vmem => 12
  | .smem => 0
  | _ => 0

abbrev bufTy : (tb : Table) → Fin (tcTables nBuf tb) → BufTy
  | .hbm, ⟨0, _⟩ => ⟨S64x576x1024, .f32⟩
  | .hbm, ⟨1, _⟩ => ⟨S64x1024, .f32⟩
  | .hbm, ⟨2, _⟩ => ⟨S100x1024, .f32⟩
  | .hbm, ⟨3, _⟩ => ⟨S100, .f32⟩
  | .hbm, ⟨4, _⟩ => ⟨S100x1024, .f32⟩
  | .hbm, ⟨5, _⟩ => ⟨S100, .f32⟩
  | .hbm, ⟨6, _⟩ => ⟨S_, .f32⟩
  | .hbm, ⟨7, _⟩ => ⟨S1x100, .f32⟩
  | .hbm, ⟨8, _⟩ => ⟨S1x100, .f32⟩
  | .hbm, ⟨9, _⟩ => ⟨S1x1, .f32⟩
  | .hbm, ⟨10, _⟩ => ⟨S64x100, .f32⟩
  | .local _ .vmem, ⟨0, _⟩ => ⟨S4x576x512, .f32⟩
  | .local _ .vmem, ⟨1, _⟩ => ⟨S4x576x512, .f32⟩
  | .local _ .vmem, ⟨2, _⟩ => ⟨S4x576x512, .f32⟩
  | .local _ .vmem, ⟨3, _⟩ => ⟨S4x576x512, .f32⟩
  | .local _ .vmem, ⟨4, _⟩ => ⟨S64x1024, .f32⟩
  | .local _ .vmem, ⟨5, _⟩ => ⟨S100x1024, .f32⟩
  | .local _ .vmem, ⟨6, _⟩ => ⟨S1x100, .f32⟩
  | .local _ .vmem, ⟨7, _⟩ => ⟨S100x1024, .f32⟩
  | .local _ .vmem, ⟨8, _⟩ => ⟨S1x100, .f32⟩
  | .local _ .vmem, ⟨9, _⟩ => ⟨S1x1, .f32⟩
  | .local _ .vmem, ⟨10, _⟩ => ⟨S8x100, .f32⟩
  | .local _ .vmem, ⟨11, _⟩ => ⟨S8x100, .f32⟩
  | _, _ => ⟨S64x576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c0_i32 : BitVec 32 := 0#32
  let v29 : BitVec 1 := Scalar.cmpi .sgt arg0 c0_i32
  let v30 : BitVec 32 := Scalar.extui v29
  let c0_i32_13 : BitVec 32 := 0#32
  let v31 : BitVec 1 := Scalar.cmpi .slt arg0 c0_i32_13
  let v32 : BitVec 32 := Scalar.extui v31
  let v33 : BitVec 32 := Scalar.subi v30 v32
  let c2_i32 : BitVec 32 := 2#32
  let c0_i32_14 : BitVec 32 := 0#32
  let v34 : BitVec 1 := Scalar.cmpi .sgt c2_i32 c0_i32_14
  let v35 : BitVec 32 := Scalar.extui v34
  let c0_i32_15 : BitVec 32 := 0#32
  let v36 : BitVec 1 := Scalar.cmpi .slt c2_i32 c0_i32_15
  let v37 : BitVec 32 := Scalar.extui v36
  let v38 : BitVec 32 := Scalar.subi v35 v37
  let v39 : BitVec 1 := Scalar.cmpi .ne v33 v38
  let v40 : BitVec 32 := Scalar.remsi arg0 c2_i32
  let c0_i32_16 : BitVec 32 := 0#32
  let v41 : BitVec 1 := Scalar.cmpi .ne v40 c0_i32_16
  let v42 : BitVec 1 := Scalar.andi v39 v41
  let v28 : BitVec 32 := Scalar.divsi arg0 c2_i32
  let c1_i32 : BitVec 32 := 1#32
  let v43 : BitVec 32 := Scalar.subi v28 c1_i32
  let v44 : BitVec 32 := Scalar.select v42 v43 v28
  let c8_i32 : BitVec 32 := 8#32
  let v45 : BitVec 32 := Scalar.muli v44 c8_i32
  let v46 : Index := Scalar.indexCast v45
  let c0_17 : Index := 0#32
  ![v46.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 2 → Memref sig .tc .vmem S4x576x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x576x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x100 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mean" => some ((589824⁻¹ : ℝ) : EReal)
  | _ => none
-- ==== ReferenceIdeal.lean ====
abbrev S64x576x1024 : Shape := ⟨3, ![64, 576, 1024]⟩
abbrev S64x1024 : Shape := ⟨2, ![64, 1024]⟩
abbrev S100x1024 : Shape := ⟨2, ![100, 1024]⟩
abbrev S100 : Shape := ⟨1, ![100]⟩
abbrev S_ : Shape := ⟨0, ![]⟩
abbrev S1024x100 : Shape := ⟨2, ![1024, 100]⟩
abbrev S64x100 : Shape := ⟨2, ![64, 100]⟩
abbrev S1x100 : Shape := ⟨2, ![1, 100]⟩
abbrev S64x576x100 : Shape := ⟨3, ![64, 576, 100]⟩
abbrev S1x1x100 : Shape := ⟨3, ![1, 1, 100]⟩
abbrev S64x100x1024 : Shape := ⟨3, ![64, 100, 1024]⟩

abbrev nBuf : Space → Nat
  | .hbm => 37
  | .vmem => 0
  | .smem => 0
  | _ => 0

abbrev bufTy : (tb : Table) → Fin (tcTables nBuf tb) → BufTy
  | .hbm, ⟨0, _⟩ => ⟨S64x576x1024, .f32⟩
  | .hbm, ⟨1, _⟩ => ⟨S64x1024, .f32⟩
  | .hbm, ⟨2, _⟩ => ⟨S100x1024, .f32⟩
  | .hbm, ⟨3, _⟩ => ⟨S100, .f32⟩
  | .hbm, ⟨4, _⟩ => ⟨S100x1024, .f32⟩
  | .hbm, ⟨5, _⟩ => ⟨S100, .f32⟩
  | .hbm, ⟨6, _⟩ => ⟨S_, .f32⟩
  | .hbm, ⟨7, _⟩ => ⟨S1024x100, .f32⟩
  | .hbm, ⟨8, _⟩ => ⟨S64x100, .f32⟩
  | .hbm, ⟨9, _⟩ => ⟨S1x100, .f32⟩
  | .hbm, ⟨10, _⟩ => ⟨S64x100, .f32⟩
  | .hbm, ⟨11, _⟩ => ⟨S64x100, .f32⟩
  | .hbm, ⟨12, _⟩ => ⟨S1024x100, .f32⟩
  | .hbm, ⟨13, _⟩ => ⟨S64x576x100, .f32⟩
  | .hbm, ⟨14, _⟩ => ⟨S1x1x100, .f32⟩
  | .hbm, ⟨15, _⟩ => ⟨S64x576x100, .f32⟩
  | .hbm, ⟨16, _⟩ => ⟨S64x576x100, .f32⟩
  | .hbm, ⟨17, _⟩ => ⟨S64x576x100, .f32⟩
  | .hbm, ⟨18, _⟩ => ⟨S64x576x100, .f32⟩
  | .hbm, ⟨19, _⟩ => ⟨S_, .f32⟩
  | .hbm, ⟨20, _⟩ => ⟨S64x576x100, .f32⟩
  | .hbm, ⟨21, _⟩ => ⟨S64x576x100, .f32⟩
  | .hbm, ⟨22, _⟩ => ⟨S_, .f32⟩
  | .hbm, ⟨23, _⟩ => ⟨S64x576x100, .f32⟩
  | .hbm, ⟨24, _⟩ => ⟨S64x576x100, .f32⟩
  | .hbm, ⟨25, _⟩ => ⟨S64x100x1024, .f32⟩
  | .hbm, ⟨26, _⟩ => ⟨S_, .f32⟩
  | .hbm, ⟨27, _⟩ => ⟨S64x100x1024, .f32⟩
  | .hbm, ⟨28, _⟩ => ⟨S64x100x1024, .f32⟩
  | .hbm, ⟨29, _⟩ => ⟨S_, .f32⟩
  | .hbm, ⟨30, _⟩ => ⟨S64x100, .f32⟩
  | .hbm, ⟨31, _⟩ => ⟨S_, .f32⟩
  | .hbm, ⟨32, _⟩ => ⟨S64x100, .f32⟩
  | .hbm, ⟨33, _⟩ => ⟨S64x100, .f32⟩
  | .hbm, ⟨34, _⟩ => ⟨S64x100, .f32⟩
  | .hbm, ⟨35, _⟩ => ⟨S64x100, .f32⟩
  | .hbm, ⟨36, _⟩ => ⟨S64x100, .f32⟩
  | _, _ => ⟨S64x576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Proof.KernelFrame.lean ====
/- The frame of the kernel as compiled, at any values: it runs, keeps its arguments and ends with every counter at zero. Of the
   output's buffer nothing is kept but that the core owns it. -/
module

public import proofs.«01_k».proof.Proof.Gen.Kernel.Frame
public import proofs.«01_k».proof.Proof.Gen.Kernel.Points
public import proofs.«01_k».proof.Proof.Gen.Kernel.Skeleton
public import Idealize.ShloMosaic.Lib.Claim

@[expose] public section

set_option maxRecDepth 16384

noncomputable section

namespace Cert.Kernel.Forget

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 1000000 in
/-- The body on whole staging buffers: the inputs' keep what they hold, the output's ends at some contents. -/
theorem triple (c : Dev nD) (i : grid0.Coords) (arg1 : Memref sig .tc .vmem S4x576x512 .f32) (harg1 : arg1.IsWhole) (arg2 : Memref sig .tc .vmem S4x576x512 .f32) (harg2 : arg2.IsWhole) (arg3 : Memref sig .tc .vmem S64x1024 .f32) (harg3 : arg3.IsWhole) (arg4 : Memref sig .tc .vmem S100x1024 .f32) (harg4 : arg4.IsWhole) (arg5 : Memref sig .tc .vmem S1x100 .f32) (harg5 : arg5.IsWhole) (arg6 : Memref sig .tc .vmem S100x1024 .f32) (harg6 : arg6.IsWhole) (arg7 : Memref sig .tc .vmem S1x100 .f32) (harg7 : arg7.IsWhole) (arg8 : Memref sig .tc .vmem S1x1 .f32) (harg8 : arg8.IsWhole) (arg9 : Memref sig .tc .vmem S8x100 .f32) (harg9 : arg9.IsWhole)
    (x0 : Vec F S4x576x512 .f32) (x1 : Vec F S4x576x512 .f32) (x2 : Vec F S64x1024 .f32) (x3 : Vec F S100x1024 .f32) (x4 : Vec F S1x100 .f32) (x5 : Vec F S100x1024 .f32) (x6 : Vec F S1x100 .f32) (x7 : Vec F S1x1 .f32) (x8 : Vec F S8x100 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ X, owns (c : Thread nD τ) arg9 fullShare X)) -∗ K ⟨⟩))
          ⊢ wp frame (wpE (defs₀ (F := F)) Variants.none c none) E (cc0__csra_body i arg1 harg1 arg2 harg2 arg3 harg3 arg4 harg4 arg5 harg5 arg6 harg6 arg7 harg7 arg8 harg8 arg9 harg9) K := by
    intro E K
    simp only [cc0__csra_body_eq_skeleton]; unfold cc0__csra_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexists _; isplitr; swap; · iexact H8
    ipureintro; rfl

variable (m : (ℓ : Loc nD τ sig) → Buf (Elt F) ℓ) (ρ : Dev nD → PrngReg)

/-- The pipeline's data on core `c`: the arrays as the region finds them, each input's buffer at its block after every point. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q w := Pipeline.shareOf spec0 w
  owed _ := 0

/-- The data's arrays are the region's. -/
theorem dat_A (c : Dev nD) (w : Fin cfg0.W) : (dat m c).A w = V m c (Pipeline.arrRef spec0 w) := by dsimp only [dat]

/-- The body leaves input 0's block in its buffer. -/
theorem after_0 (c : Dev nD) (t : Fin cfg0.N) : (dat m c).after 0 t = iblk m c 0 t := by dsimp only [dat]
/-- The body leaves input 1's block in its buffer. -/
theorem after_1 (c : Dev nD) (t : Fin cfg0.N) : (dat m c).after 1 t = iblk m c 1 t := by dsimp only [dat]
/-- The body leaves input 2's block in its buffer. -/
theorem after_2 (c : Dev nD) (t : Fin cfg0.N) : (dat m c).after 2 t = iblk m c 2 t := by dsimp only [dat]
/-- The body leaves input 3's block in its buffer. -/
theorem after_3 (c : Dev nD) (t : Fin cfg0.N) : (dat m c).after 3 t = iblk m c 3 t := by dsimp only [dat]
/-- The body leaves input 4's block in its buffer. -/
theorem after_4 (c : Dev nD) (t : Fin cfg0.N) : (dat m c).after 4 t = iblk m c 4 t := by dsimp only [dat]
/-- The body leaves input 5's block in its buffer. -/
theorem after_5 (c : Dev nD) (t : Fin cfg0.N) : (dat m c).after 5 t = iblk m c 5 t := by dsimp only [dat]
/-- The body leaves input 6's block in its buffer. -/
theorem after_6 (c : Dev nD) (t : Fin cfg0.N) : (dat m c).after 6 t = iblk m c 6 t := by dsimp only [dat]
/-- The body leaves input 7's block in its buffer. -/
theorem after_7 (c : Dev nD) (t : Fin cfg0.N) : (dat m c).after 7 t = iblk m c 7 t := by dsimp only [dat]

/-- The body finds input 0's block in its buffer. -/
theorem before_0 (c : Dev nD) (t : Fin cfg0.N) (d) : (dat m c).before 0 t d = iblk m c 0 t :=
  before0_0_of m (dat m c) (dat_A m c 0) (after_0 m c) t d
/-- The body finds input 1's block in its buffer. -/
theorem before_1 (c : Dev nD) (t : Fin cfg0.N) (d) : (dat m c).before 1 t d = iblk m c 1 t :=
  before0_1_of m (dat m c) (dat_A m c 1) (after_1 m c) t d
/-- The body finds input 2's block in its buffer. -/
theorem before_2 (c : Dev nD) (t : Fin cfg0.N) (d) : (dat m c).before 2 t d = iblk m c 2 t :=
  before0_2_of m (dat m c) (dat_A m c 2) (after_2 m c) t d
/-- The body finds input 3's block in its buffer. -/
theorem before_3 (c : Dev nD) (t : Fin cfg0.N) (d) : (dat m c).before 3 t d = iblk m c 3 t :=
  before0_3_of m (dat m c) (dat_A m c 3) (after_3 m c) t d
/-- The body finds input 4's block in its buffer. -/
theorem before_4 (c : Dev nD) (t : Fin cfg0.N) (d) : (dat m c).before 4 t d = iblk m c 4 t :=
  before0_4_of m (dat m c) (dat_A m c 4) (after_4 m c) t d
/-- The body finds input 5's block in its buffer. -/
theorem before_5 (c : Dev nD) (t : Fin cfg0.N) (d) : (dat m c).before 5 t d = iblk m c 5 t :=
  before0_5_of m (dat m c) (dat_A m c 5) (after_5 m c) t d
/-- The body finds input 6's block in its buffer. -/
theorem before_6 (c : Dev nD) (t : Fin cfg0.N) (d) : (dat m c).before 6 t d = iblk m c 6 t :=
  before0_6_of m (dat m c) (dat_A m c 6) (after_6 m c) t d
/-- The body finds input 7's block in its buffer. -/
theorem before_7 (c : Dev nD) (t : Fin cfg0.N) (d) : (dat m c).before 7 t d = iblk m c 7 t :=
  before0_7_of m (dat m c) (dat_A m c 7) (after_7 m c) t d

/-- What the body is called with at point `t`, window by window. -/
def pre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d))
    ∗ (∃ d, owns (c : Thread nD τ) (st0_7 t) fullShare ((dat m c).before 7 t d))
    ∗ (∃ Y, owns (c : Thread nD τ) (st0_8 t) fullShare Y))

/-- What it returns. -/
def post (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ owns (c : Thread nD τ) (st0_6 t) fullShare ((dat m c).after 6 t)
    ∗ owns (c : Thread nD τ) (st0_7 t) fullShare ((dat m c).after 7 t)
    ∗ (∃ X, owns (c : Thread nD τ) (st0_8 t) fullShare X))

set_option maxHeartbeats 1000000 in
/-- The body at any point takes the one to the other. -/
theorem point (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7]
  rw [show (dat m c).Φ t.succ = (dat m c).Φ t.castSucc from rfl,
    show (dat m c).owesAt () t.succ = (dat m c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%Y, H8⟩⟩
  iapply ((triple c (grid0.coords t) _ _ _ _ _ _ _ _ _ _ _ _ _ _ _ _ _ _ (iblk m c 0 t) (iblk m c 1 t) (iblk m c 2 t)
    (iblk m c 3 t) (iblk m c 4 t) (iblk m c 5 t) (iblk m c 6 t) (iblk m c 7 t) Y) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at a point is the body there. -/
theorem row (t : Fin cfg0.N) : defs₀ (F := F) .tc cfg0.body (cfg0.bodyArgs t (cfg0.slots t)) = bodyAt0 t := by
  unfold defs₀; rw [Defs.onTc_tc]

/-- The body obligation at every point, the output forgotten. -/
theorem obligation (c : Dev nD) :
    BodyObligation (dat (F := F) m c) (defs₀ (F := F)) Variants.none () Set.univ (fun w => w.val == 8) := fun t => by
  rw [bigSep_W0, bigSep_W0, row]
  exact triple_restated (point m c t) rfl .rfl fun _ => .rfl

set_option backward.isDefEq.respectTransparency.types false in
/-- Every fair execution ends, every input's array is as the region found it and every counter is zero. -/
theorem launch : θ_run defs (onTc (τ := τ) (main (F := F))) (s₀ m ρ)
    (fun r => RDat.FramePost (cfgs 0) (fun c => (dat m c).toRForget fun w => w.val == 8) (V m) r ∧ r.2.sem = fun _ => 0) :=
  Pipeline.θ_run_frame_forget_shared (Q' := _) cfgs (fun _ c => dat m c) (0 : Fin 1) launch₀0 defs₀ Variants.none
    (fun w => w.val == 8) m ρ main (hbody := fun c => (obligation m c).loose) (hq := fun _ _ _ => rfl)
    (howed := fun _ _ => rfl) (V := V m) (hmain := hmain m Variants.none) (hA := dat_A m) (hΦ := fun _ _ => rfl)

/-- Every fair execution of the kernel ends with the arguments as they were and every counter at zero. -/
theorem ends : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => ?_, h.2⟩) (launch m ρ)
  have hp := h.1
  exact ⟨(RDat.FramePost.arr_in hp c 1 rfl).trans ((dat_A m c 1).trans (V_main_arg0 m c)),
    (RDat.FramePost.arr_in hp c 2 rfl).trans ((dat_A m c 2).trans (V_main_arg1 m c)),
    (RDat.FramePost.arr_in hp c 3 rfl).trans ((dat_A m c 3).trans (V_main_arg2 m c)),
    ((hp c).2 main_arg3 (Pipeline.mem_restRefs_of main_arg3 (by decide) (by decide))).trans (V_main_arg3 m c),
    (RDat.FramePost.arr_in hp c 5 rfl).trans ((dat_A m c 5).trans (V_main_arg4 m c)),
    ((hp c).2 main_arg5 (Pipeline.mem_restRefs_of main_arg5 (by decide) (by decide))).trans (V_main_arg5 m c),
    ((hp c).2 main_arg6 (Pipeline.mem_restRefs_of main_arg6 (by decide) (by decide))).trans (V_main_arg6 m c)⟩

end Cert.Kernel.Forget

end
-- ==== Proof.Algebra.lean ====
/- The arithmetic over the extended reals that joins the two programs: a gate's value is a real that is not negative, so
   it goes through any sum, infinities included; and so the gated sum of whole rows is the sum over the columns of the
   gated columns, and one factor 1/589824 does the work of the two divisions by 576 and by 1024. -/
module

public import Idealize.ShloMosaic.PureOps.Ideal

@[expose] public section

noncomputable section

namespace Cert.Algebra

open Idealize.ShloMosaic

/-- The constant the reference divides by for the mean over the patches is the real 576. -/
theorem patches_const : Ideal.ofBits .f32 0x44100000#32 = ((576 : ℝ) : EReal) := by
  simp [Ideal.ofBits, Ideal.ieee, -EReal.coe_mul]; norm_num

/-- The constant the reference divides by for the mean over the columns is the real 1024. -/
theorem columns_const : Ideal.ofBits .f32 0x44800000#32 = ((1024 : ℝ) : EReal) := by
  simp [Ideal.ofBits, Ideal.ieee, -EReal.coe_mul]; norm_num

/-- The gate of any extended real is a real that is not negative. -/
theorem gate_real (x : EReal) : ∃ r : ℝ, 0 ≤ r ∧ Ideal.logistic x = (r : EReal) := by
  induction x with
  | bot => exact ⟨0, le_rfl, by rw [Ideal.logistic_bot, EReal.coe_zero]⟩
  | top => exact ⟨1, zero_le_one, by rw [Ideal.logistic_top, EReal.coe_one]⟩
  | coe r => exact ⟨(1 + Real.exp (-r))⁻¹, by positivity, Ideal.logistic_coe r⟩

/-- A real that is not negative goes into a finite sum of extended reals from the left. -/
theorem real_mul_sum {ι : Type} (r : ℝ) (hr : 0 ≤ r) (S : Finset ι) (f : ι → EReal) :
    (r : EReal) * ∑ i ∈ S, f i = ∑ i ∈ S, (r : EReal) * f i := by
  classical
  induction S using Finset.induction_on with
  | empty => simp
  | insert a S ha ih =>
    rw [Finset.sum_insert ha, Finset.sum_insert ha, EReal.left_distrib_of_nonneg_of_ne_top
      (by exact_mod_cast hr) (EReal.coe_ne_top r), ih]

/-- The same from the right. -/
theorem sum_mul_real {ι : Type} (r : ℝ) (hr : 0 ≤ r) (S : Finset ι) (f : ι → EReal) :
    (∑ i ∈ S, f i) * (r : EReal) = ∑ i ∈ S, f i * (r : EReal) := by
  rw [mul_comm, real_mul_sum r hr]
  exact Finset.sum_congr rfl fun i _ => mul_comm _ _

/-- THE POOLING: gating each row's sum and scaling once by 1/589824 is gating each column, taking its mean over the 576
    rows, and then the mean over the 1024 columns. -/
theorem pooled {n k : ℕ} (a : Fin n → EReal) (ha : ∀ s, ∃ r : ℝ, 0 ≤ r ∧ a s = (r : EReal))
    (x : Fin n → Fin k → EReal) :
    (∑ s, a s * ∑ d, x s d) * ((589824⁻¹ : ℝ) : EReal)
      = Ideal.div (∑ d, Ideal.div (∑ s, a s * x s d) ((576 : ℝ) : EReal)) ((1024 : ℝ) : EReal) := by
  have hrow : ∀ s, a s * ∑ d, x s d = ∑ d, a s * x s d := fun s => by
    obtain ⟨r, hr, h⟩ := ha s
    rw [h, real_mul_sum r hr]
  simp only [Ideal.div_coe (show (576 : ℝ) ≠ 0 by norm_num), Ideal.div_coe (show (1024 : ℝ) ≠ 0 by norm_num), hrow]
  rw [Finset.sum_comm, ← sum_mul_real (1 / 576) (by norm_num), mul_assoc, ← EReal.coe_mul]
  norm_num

end Cert.Algebra

end
-- ==== Proof.Spec.lean ====
/- What the program computes, written once for both programs: the score of one image and one class over the extended
   reals, in the reference's own order of operations. -/
module

public import proofs.«01_k».proof.Proof.Algebra
public import Idealize.ShloMosaic.Lib.Pointwise

@[expose] public section

noncomputable section

namespace Cert.Spec

open Idealize.ShloMosaic

variable (X : FVec Ideal ⟨3, ![64, 576, 1024]⟩ .f32) (CT : FVec Ideal ⟨2, ![64, 1024]⟩ .f32)
  (CW : FVec Ideal ⟨2, ![100, 1024]⟩ .f32) (CB : FVec Ideal ⟨1, ![100]⟩ .f32)
  (FW : FVec Ideal ⟨2, ![100, 1024]⟩ .f32) (FB : FVec Ideal ⟨1, ![100]⟩ .f32) (LAM : FVec Ideal ⟨0, ![]⟩ .f32)

/-- The gate of patch `s` of image `b` for class `c`. -/
def gate (b : Fin 64) (s : Fin 576) (c : Fin 100) : EReal :=
  Ideal.logistic (∑ d : Fin 1024, X (ix3 b s d) * CW (ix2 c d) + CB (ix1 c))

/-- The gated patches of image `b` for class `c`, their mean over the patches and then over the columns. -/
def attention (b : Fin 64) (c : Fin 100) : EReal :=
  Ideal.div (∑ d : Fin 1024, Ideal.div (∑ s : Fin 576, gate X CW CB b s c * X (ix3 b s d)) ((576 : ℝ) : EReal))
    ((1024 : ℝ) : EReal)

/-- The score of image `b` for class `c`: the class token's linear score plus `LAM` times the attention's. -/
def score (b : Fin 64) (c : Fin 100) : EReal :=
  (∑ d : Fin 1024, CT (ix2 b d) * FW (ix2 c d) + FB (ix1 c)) + LAM ix0 * attention X CW CB b c

/-- The scores of every image and class, as one array. -/
def scores : FVec Ideal ⟨2, ![64, 100]⟩ .f32 := fun j => score X CT CW CB FW FB LAM (j 0) (j 1)

/-- The attention's score of an image from its rows' sums and one factor 1/589824, the columns taken in two halves. -/
theorem attention_halves (b : Fin 64) (c : Fin 100) :
    (∑ s : Fin 576, Ideal.logistic
        ((∑ k : Fin 512, X (ix3 b s ⟨k.val, by omega⟩) * CW (ix2 c ⟨k.val, by omega⟩))
          + (∑ k : Fin 512, X (ix3 b s ⟨512 + k.val, by omega⟩) * CW (ix2 c ⟨512 + k.val, by omega⟩)) + CB (ix1 c))
        * ((∑ k : Fin 512, X (ix3 b s ⟨k.val, by omega⟩)) + ∑ k : Fin 512, X (ix3 b s ⟨512 + k.val, by omega⟩)))
      * ((589824⁻¹ : ℝ) : EReal) = attention X CW CB b c := by
  unfold attention
  rw [← Algebra.pooled (fun s => gate X CW CB b s c) (fun s => Algebra.gate_real _) (fun s d => X (ix3 b s d))]
  refine congrArg (· * ((589824⁻¹ : ℝ) : EReal)) (Finset.sum_congr rfl fun s _ => ?_)
  rw [Fin.sum_univ_two_halves 512 512 rfl (fun d => X (ix3 b s d))]
  unfold gate
  rw [Fin.sum_univ_two_halves 512 512 rfl (fun d => X (ix3 b s d) * CW (ix2 c d))]

end Cert.Spec

end
-- ==== Proof.RefValue.lean ====
/- The reference's result read at an image and a class: it is the score of Spec.lean. -/
module

public import proofs.«01_k».proof.Proof.Gen.ReferenceIdeal.Run
public import proofs.«01_k».proof.Proof.Spec

@[expose] public section

set_option maxRecDepth 16384

noncomputable section

namespace Cert.ReferenceIdeal.Scores

open Cert.ReferenceIdeal Cert.ReferenceIdeal.Gen Idealize.ShloMosaic

/-- The reference's composed term of its arguments is the array of scores. -/
theorem term_eq (X : FVec Ideal S64x576x1024 .f32) (CT : FVec Ideal S64x1024 .f32) (CW : FVec Ideal S100x1024 .f32)
    (CB : FVec Ideal S100 .f32) (FW : FVec Ideal S100x1024 .f32) (FB : FVec Ideal S100 .f32) (LAM : FVec Ideal S_ .f32) :
    addf (addf (Host.dotGeneral dot_S64x1024_S1024x100_S64x100_1_0_0_1_n_n none CT
            (transpose S1024x100 [1, 0] FW transposes_S100x1024_S1024x100_1_0))
          (broadcastInDim S64x100 ![0, 1] bcast_S1x100_S64x100_0_1 (broadcastInDim S1x100 ![1] bcast_S100_S1x100_1 FB)))
        (mulf (broadcastInDim S64x100 ![] bcast_S_S64x100 LAM)
          (Host.divf
            (Host.reduceAdd
              (Host.divf
                (Host.dotGeneral dot_S64x576x100_S64x576x1024_S64x100x1024_1_1_2_2_0_0 none
                  (Host.divf (broadcastInDim S64x576x100 ![] bcast_S_S64x576x100 (constant S_ .f32 0x3F800000#32))
                    (addf (broadcastInDim S64x576x100 ![] bcast_S_S64x576x100 (constant S_ .f32 0x3F800000#32))
                      (Host.exp (Host.negf
                        (addf (Host.dotGeneral dot_S64x576x1024_S1024x100_S64x576x100_2_0_01_1_n_n none X
                            (transpose S1024x100 [1, 0] CW transposes_S100x1024_S1024x100_1_0))
                          (broadcastInDim S64x576x100 ![0, 1, 2] bcast_S1x1x100_S64x576x100_0_1_2
                            (broadcastInDim S1x1x100 ![2] bcast_S100_S1x1x100_2 CB))))))) X)
                (broadcastInDim S64x100x1024 ![] bcast_S_S64x100x1024 (constant S_ .f32 0x44100000#32)))
              (constant S_ .f32 0x00000000#32) reducesTo_S64x100x1024_S64x100_d2 h_S_)
            (broadcastInDim S64x100 ![] bcast_S_S64x100 (constant S_ .f32 0x44800000#32))))
      = Spec.scores X CT CW CB FW FB LAM := by
  funext j
  idx_vars j
  pointwise [Spec.scores, Spec.score, Spec.attention, Spec.gate, Ideal.logistic]
  rw [Algebra.patches_const, Algebra.columns_const]

end Cert.ReferenceIdeal.Scores

end
-- ==== Proof.Body.lean ====
/- One run of the idealized kernel's body on whole staging buffers: what it leaves in the output's buffer is named, as a
   function of what the input buffers hold and of what the output's buffer held before. -/
module

public import proofs.«01_k».proof.Proof.Gen.KernelIdeal.Frame
public import proofs.«01_k».proof.Proof.Gen.KernelIdeal.Points
public import proofs.«01_k».proof.Proof.Gen.KernelIdeal.Skeleton
public import Idealize.ShloMosaic.Lib.Claim
public import Idealize.ShloMosaic.Lib.VecWindow
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The block the body leaves at grid coordinates `i`: from the two halves of four images' patches, the class tokens, the
    gate's weights and bias, the linear map's weights and bias, the scale, and the block found. -/
def stored (i : grid0.Coords) (x0 x1 : Vec F S4x576x512 .f32) (x2 : Vec F S64x1024 .f32) (x3 : Vec F S100x1024 .f32)
    (x4 : Vec F S1x100 .f32) (x5 : Vec F S100x1024 .f32) (x6 : Vec F S1x100 .f32) (x7 : Vec F S1x1 .f32)
    (old : Vec F S8x100 .f32) : FVec F S8x100 .f32 :=
  k0_pay1 (BitVec.ofNat 32 (i 0).val)
    (k0_pay3 (View.ld x2 (Rect.unit (s := S64x1024) (k0_off1 i) S8x1024.size (k0_off1_inb i))) x5 x6)
    (k0_pay4 (k0_pay2 x0 x1 x3 x4)) k0_pay5 2#32 (Scalar.cmpi .eq 2#32 0#32) x7 old

set_option maxHeartbeats 1000000 in
/-- The body's triple. -/
theorem triple (c : Dev nD) (i : grid0.Coords) (arg1 : Memref sig .tc .vmem S4x576x512 .f32) (harg1 : arg1.IsWhole) (arg2 : Memref sig .tc .vmem S4x576x512 .f32) (harg2 : arg2.IsWhole) (arg3 : Memref sig .tc .vmem S64x1024 .f32) (harg3 : arg3.IsWhole) (arg4 : Memref sig .tc .vmem S100x1024 .f32) (harg4 : arg4.IsWhole) (arg5 : Memref sig .tc .vmem S1x100 .f32) (harg5 : arg5.IsWhole) (arg6 : Memref sig .tc .vmem S100x1024 .f32) (harg6 : arg6.IsWhole) (arg7 : Memref sig .tc .vmem S1x100 .f32) (harg7 : arg7.IsWhole) (arg8 : Memref sig .tc .vmem S1x1 .f32) (harg8 : arg8.IsWhole) (arg9 : Memref sig .tc .vmem S8x100 .f32) (harg9 : arg9.IsWhole)
    (x0 : Vec F S4x576x512 .f32) (x1 : Vec F S4x576x512 .f32) (x2 : Vec F S64x1024 .f32) (x3 : Vec F S100x1024 .f32) (x4 : Vec F S1x100 .f32) (x5 : Vec F S100x1024 .f32) (x6 : Vec F S1x100 .f32) (x7 : Vec F S1x1 .f32) (x8 : Vec F S8x100 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (stored i x0 x1 x2 x3 x4 x5 x6 x7 x8)) -∗ K ⟨⟩))
          ⊢ wp frame (wpE (defs₀ (F := F)) Variants.none c none) E (cc0__csra_body i arg1 harg1 arg2 harg2 arg3 harg3 arg4 harg4 arg5 harg5 arg6 harg6 arg7 harg7 arg8 harg8 arg9 harg9) K := by
    intro E K
    simp only [cc0__csra_body_eq_skeleton]; unfold cc0__csra_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; isplitr; swap; · iexact H8
    ipureintro
    frame_out
    exact View.read_writes_full arg9.view _ _ _ []

end Cert.KernelIdeal.Body

end
-- ==== Proof.Payload.lean ====
/- The kernel's payloads read at an index. -/
module

public import proofs.«01_k».proof.Proof.Gen.KernelIdeal.Skeleton
public import proofs.«01_k».proof.Proof.Spec

@[expose] public section

set_option maxRecDepth 16384

noncomputable section

namespace Cert.KernelIdeal.Payload

open Cert.KernelIdeal Cert.KernelIdeal.Gen Idealize.ShloMosaic

/-- The constant the kernel scales by denotes the real 1/589824. -/
theorem mean_const : Named.named (F := Ideal) κ "mean" (φ := .f32) 0x35E38E39#32 = ((589824⁻¹ : ℝ) : EReal) :=
  IdealRules.named_const.ideal_named_scalar _ _ _ _ rfl

/-- The row's half of the block, as the kernel computes it by a floored division: row `r` lies in half `r / 4`. -/
theorem pay5 (r : Fin 8) (c : Fin 100) : k0_pay5 (ix2 r c) = BitVec.ofNat 32 (r.val / 4) := by
  pointwise [k0_pay5]
  revert r; decide +kernel

/-- The kernel's test of a row's half against the grid point's parity, computed by a floored remainder. -/
theorem turn : ∀ (n : Fin 16) (r : Fin 8),
    IntOp.cmpi CmpIPredicate.eq (BitVec.ofNat 32 (r.val / 4))
        (Scalar.select
          (Scalar.andi
            (Scalar.xori
              (Scalar.cmpi CmpIPredicate.slt
                (Scalar.remsi (BitVec.ofNat 32 n.val) (Scalar.select (Scalar.cmpi CmpIPredicate.eq 2#32 0#32) 1#32 2#32))
                0#32)
              (Scalar.cmpi CmpIPredicate.slt (Scalar.select (Scalar.cmpi CmpIPredicate.eq 2#32 0#32) 1#32 2#32) 0#32))
            (Scalar.cmpi CmpIPredicate.ne
              (Scalar.remsi (BitVec.ofNat 32 n.val) (Scalar.select (Scalar.cmpi CmpIPredicate.eq 2#32 0#32) 1#32 2#32))
              0#32))
          (Scalar.addi
            (Scalar.remsi (BitVec.ofNat 32 n.val) (Scalar.select (Scalar.cmpi CmpIPredicate.eq 2#32 0#32) 1#32 2#32))
            (Scalar.select (Scalar.cmpi CmpIPredicate.eq 2#32 0#32) 1#32 2#32))
          (Scalar.remsi (BitVec.ofNat 32 n.val) (Scalar.select (Scalar.cmpi CmpIPredicate.eq 2#32 0#32) 1#32 2#32)))
      = if r.val / 4 = n.val % 2 then 1#1 else 0#1 := by decide +kernel

/-- What the body stores: the fresh score in the rows of the grid point's half, what the block held in the others. -/
theorem pay1 (n : Fin 16) (v53 v54 : FVec Ideal S8x100 .f32) (v92 : Vec Ideal S1x1 .f32)
    (v97 : Vec Ideal S8x100 .f32) (r : Fin 8) (c : Fin 100) :
    k0_pay1 (F := Ideal) (BitVec.ofNat 32 n.val) v53 v54 k0_pay5 2#32 (Scalar.cmpi .eq 2#32 0#32) v92 v97 (ix2 r c)
      = if r.val / 4 = n.val % 2 then v53 (ix2 r c) + v92 (ix2 0 0) * v54 (ix2 r c) else v97 (ix2 r c) := by
  pointwise [k0_pay1]
  rw [pay5, turn]
  split <;> rfl

/-- The class tokens' linear scores. -/
theorem pay3 (v47 : Vec Ideal S8x1024 .f32) (v48 : Vec Ideal S100x1024 .f32) (v50 : Vec Ideal S1x100 .f32)
    (r : Fin 8) (c : Fin 100) :
    k0_pay3 (F := Ideal) v47 v48 v50 (ix2 r c) = ∑ d : Fin 1024, v47 (ix2 r d) * v48 (ix2 c d) + v50 (ix2 0 c) := by
  pointwise [k0_pay3]

/-- The attention's scores of the four images, written twice under each other. -/
theorem pay4 (v27 : FVec Ideal S4x100 .f32) (r : Fin 8) (c : Fin 100) :
    k0_pay4 (F := Ideal) v27 (ix2 r c) = v27 (ix2 ⟨r.val % 4, by omega⟩ c) := by
  pointwise [k0_pay4]
  split
  · exact congrArg (fun b => v27 (ix2 b c)) (Fin.ext (show r.val = r.val % 4 by omega))
  · exact congrArg (fun b => v27 (ix2 b c)) (Fin.ext (show r.val - 4 = r.val % 4 by omega))

/-- The attention's score of an image of the point, from its rows' sums and the constant 1/589824. -/
theorem pay2 (v0 : Vec Ideal S4x576x512 .f32) (v2 : Vec Ideal S4x576x512 .f32) (v4 : Vec Ideal S100x1024 .f32)
    (v16 : Vec Ideal S1x100 .f32) (b : Fin 4) (c : Fin 100) :
    k0_pay2 (F := Ideal) v0 v2 v4 v16 (ix2 b c)
      = (∑ s : Fin 576, Ideal.logistic
          ((∑ k : Fin 512, v0 (ix3 b s k) * v4 (ix2 c ⟨k.val, by omega⟩))
            + (∑ k : Fin 512, v2 (ix3 b s k) * v4 (ix2 c ⟨512 + k.val, by omega⟩)) + v16 (ix2 0 c))
          * ((∑ k : Fin 512, v0 (ix3 b s k)) + ∑ k : Fin 512, v2 (ix3 b s k)))
        * ((589824⁻¹ : ℝ) : EReal) := by
  pointwise [k0_pay2]
  rw [mean_const]

/-- The value the body stores at grid point `n`, of ANY blocks that hold the point's parts of the argument arrays: at a row
    of the point's half of the block the score of the image there, at another row what was found. -/
theorem of_blocks (n : Fin 16) (X : FVec Ideal ⟨3, ![64, 576, 1024]⟩ .f32) (CT : FVec Ideal ⟨2, ![64, 1024]⟩ .f32)
    (CW : FVec Ideal ⟨2, ![100, 1024]⟩ .f32) (CB : FVec Ideal ⟨1, ![100]⟩ .f32) (FW : FVec Ideal ⟨2, ![100, 1024]⟩ .f32)
    (FB : FVec Ideal ⟨1, ![100]⟩ .f32) (LAM : FVec Ideal ⟨0, ![]⟩ .f32)
    (x0 x1 : Vec Ideal S4x576x512 .f32) (x2 : Vec Ideal S8x1024 .f32) (x3 : Vec Ideal S100x1024 .f32)
    (x4 : Vec Ideal S1x100 .f32) (x5 : Vec Ideal S100x1024 .f32) (x6 : Vec Ideal S1x100 .f32) (x7 : Vec Ideal S1x1 .f32)
    (old : Vec Ideal S8x100 .f32)
    (h0 : ∀ (b : Fin 4) (s : Fin 576) (k : Fin 512),
      x0 (ix3 b s k) = X (ix3 ⟨4 * n.val + b.val, by omega⟩ s ⟨k.val, by omega⟩))
    (h1 : ∀ (b : Fin 4) (s : Fin 576) (k : Fin 512),
      x1 (ix3 b s k) = X (ix3 ⟨4 * n.val + b.val, by omega⟩ s ⟨512 + k.val, by omega⟩))
    (h2 : ∀ (r : Fin 8) (d : Fin 1024), x2 (ix2 r d) = CT (ix2 ⟨8 * (n.val / 2) + r.val, by omega⟩ d))
    (h3 : ∀ (a : Fin 100) (d : Fin 1024), x3 (ix2 a d) = CW (ix2 a d))
    (h4 : ∀ a : Fin 100, x4 (ix2 0 a) = CB (ix1 a))
    (h5 : ∀ (a : Fin 100) (d : Fin 1024), x5 (ix2 a d) = FW (ix2 a d))
    (h6 : ∀ a : Fin 100, x6 (ix2 0 a) = FB (ix1 a))
    (h7 : x7 (ix2 0 0) = LAM ix0) (r : Fin 8) (a : Fin 100) :
    k0_pay1 (F := Ideal) (BitVec.ofNat 32 n.val) (k0_pay3 x2 x5 x6) (k0_pay4 (k0_pay2 x0 x1 x3 x4)) k0_pay5 2#32
        (Scalar.cmpi .eq 2#32 0#32) x7 old (ix2 r a)
      = if r.val / 4 = n.val % 2 then Cert.Spec.score X CT CW CB FW FB LAM ⟨8 * (n.val / 2) + r.val, by omega⟩ a
        else old (ix2 r a) := by
  rw [pay1]
  by_cases h : r.val / 4 = n.val % 2
  · have hb : (⟨4 * n.val + r.val % 4, by omega⟩ : Fin 64) = ⟨8 * (n.val / 2) + r.val, by omega⟩ :=
      Fin.ext (show 4 * n.val + r.val % 4 = 8 * (n.val / 2) + r.val by omega)
    rw [if_pos h, if_pos h, pay3, pay4, pay2]
    simp only [h0, h1, h2, h3, h4, h5, h6, h7, hb]
    rw [Cert.Spec.attention_halves]
    rfl
  · rw [if_neg h, if_neg h]

end Cert.KernelIdeal.Payload

end
-- ==== Proof.Blocks.lean ====
/- What the body leaves at a grid point, read against the argument arrays: at the rows of the point's half of the block, the
   images' scores; at the other rows, the block found. -/
module

public import proofs.«01_k».proof.Proof.Body
public import proofs.«01_k».proof.Proof.Payload

@[expose] public section

set_option maxRecDepth 16384

noncomputable section

namespace Cert.KernelIdeal.Blocks

open Cert.KernelIdeal Cert.KernelIdeal.Gen
open Idealize.ShloMosaic Idealize.ShloMosaic.TcCoe
open Idealize.SL Idealize.SL.Sem

variable (m : (ℓ : Loc nD τ sig) → Buf (Elt Ideal) ℓ)

/-- The grid has sixteen points. -/
theorem lt16 (t : Fin cfg0.N) : t.val < 16 := t.isLt.trans_eq N_0

/-- A point's one coordinate is its number. -/
theorem coord : ∀ t : Fin grid0.N, (grid0.coords t 0).val = t.val := by decide +kernel

/-- The left halves' block is the point's own. -/
theorem idx0 : ∀ t : Fin grid0.N, win0_0.index t 0 = t.val ∧ win0_0.index t 1 = 0 ∧ win0_0.index t 2 = 0 := by decide +kernel
/-- The right halves' block is the point's own, in the second half of the columns. -/
theorem idx1 : ∀ t : Fin grid0.N, win0_1.index t 0 = t.val ∧ win0_1.index t 1 = 0 ∧ win0_1.index t 2 = 1 := by decide +kernel
/-- Input 2 is one block, the whole array. -/
theorem idx2 : ∀ t : Fin grid0.N, win0_2.index t 0 = 0 ∧ win0_2.index t 1 = 0 := by decide +kernel
/-- Input 3 is one block, the whole array. -/
theorem idx3 : ∀ t : Fin grid0.N, win0_3.index t 0 = 0 ∧ win0_3.index t 1 = 0 := by decide +kernel
/-- Input 4 is one block, the whole array. -/
theorem idx4 : ∀ t : Fin grid0.N, win0_4.index t 0 = 0 ∧ win0_4.index t 1 = 0 := by decide +kernel
/-- Input 5 is one block, the whole array. -/
theorem idx5 : ∀ t : Fin grid0.N, win0_5.index t 0 = 0 ∧ win0_5.index t 1 = 0 := by decide +kernel
/-- Input 6 is one block, the whole array. -/
theorem idx6 : ∀ t : Fin grid0.N, win0_6.index t 0 = 0 ∧ win0_6.index t 1 = 0 := by decide +kernel
/-- Input 7 is one block, the whole array. -/
theorem idx7 : ∀ t : Fin grid0.N, win0_7.index t 0 = 0 ∧ win0_7.index t 1 = 0 := by decide +kernel

/-- The rows of the class tokens read at a point: eight, from a multiple of eight on. -/
theorem rows : ∀ t : Fin grid0.N, k0_off1 (grid0.coords t) 0 = 8 * (t.val / 2) ∧ k0_off1 (grid0.coords t) 1 = 0 := by
  decide +kernel

/-- The left half of the patches' columns, of the point's four images. -/
theorem left (c : Dev nD) (t : Fin cfg0.N) (b : Fin 4) (s : Fin 576) (k : Fin 512) :
    iblk m c 0 t (ix3 b s k)
      = m ((c : Thread nD τ).loc main_arg0) (ix3 ⟨4 * t.val + b.val, by have := lt16 t; omega⟩ s ⟨k.val, by omega⟩) := by
  blk_ext! [iblk, V, idx0 t]

/-- The right half. -/
theorem right (c : Dev nD) (t : Fin cfg0.N) (b : Fin 4) (s : Fin 576) (k : Fin 512) :
    iblk m c 1 t (ix3 b s k)
      = m ((c : Thread nD τ).loc main_arg0) (ix3 ⟨4 * t.val + b.val, by have := lt16 t; omega⟩ s ⟨512 + k.val, by omega⟩) := by
  blk_ext! [iblk, V, idx1 t]

/-- The class tokens of the block's eight images. -/
theorem tokens (c : Dev nD) (t : Fin cfg0.N) (r : Fin 8) (d : Fin 1024) :
    View.ld (iblk m c 2 t) (Rect.unit (s := S64x1024) (k0_off1 (grid0.coords t)) S8x1024.size (k0_off1_inb (grid0.coords t))) (ix2 r d)
      = m ((c : Thread nD τ).loc main_arg1) (ix2 ⟨8 * (t.val / 2) + r.val, by have := lt16 t; omega⟩ d) := by
  refine (View.ld_unit_apply_of _ _ _ _ _ (i := ix2 ⟨8 * (t.val / 2) + r.val, by have := lt16 t; omega⟩ d) ?_).trans ?_
  · intro a
    match a with
    | ⟨0, _⟩ => exact congrArg (· + r.val) (rows t).1.symm
    | ⟨1, _⟩ => exact (Nat.zero_add d.val).symm.trans (congrArg (· + d.val) (rows t).2.symm)
  · blk_ext! [iblk, V, idx2 t]

/-- The gate's weights. -/
theorem gateW (c : Dev nD) (t : Fin cfg0.N) (a : Fin 100) (d : Fin 1024) :
    iblk m c 3 t (ix2 a d) = m ((c : Thread nD τ).loc main_arg2) (ix2 a d) := by
  blk_ext! [iblk, V, idx3 t]

/-- The gate's bias, a row of it. -/
theorem gateB (c : Dev nD) (t : Fin cfg0.N) (a : Fin 100) :
    iblk m c 4 t (ix2 0 a) = m ((c : Thread nD τ).loc main_arg3) (ix1 a) := by
  blk_ext! [iblk, V, idx4 t]

/-- The linear map's weights. -/
theorem linW (c : Dev nD) (t : Fin cfg0.N) (a : Fin 100) (d : Fin 1024) :
    iblk m c 5 t (ix2 a d) = m ((c : Thread nD τ).loc main_arg4) (ix2 a d) := by
  blk_ext! [iblk, V, idx5 t]

/-- The linear map's bias, a row of it. -/
theorem linB (c : Dev nD) (t : Fin cfg0.N) (a : Fin 100) :
    iblk m c 6 t (ix2 0 a) = m ((c : Thread nD τ).loc main_arg5) (ix1 a) := by
  blk_ext! [iblk, V, idx6 t]

/-- The scale, the one element of a 1×1 array. -/
theorem scale (c : Dev nD) (t : Fin cfg0.N) :
    iblk m c 7 t (ix2 0 0) = m ((c : Thread nD τ).loc main_arg6) ix0 := by
  blk_ext! [iblk, V, idx7 t]

/-- The score of image `b` for class `a`, of core `c`'s argument arrays at the launch. -/
def score (c : Dev nD) (b : Fin 64) (a : Fin 100) : EReal :=
  Cert.Spec.score (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) b a

/-- The block the body leaves at point `t` on core `c`, if it finds `old`. -/
def left8 (c : Dev nD) (t : Fin cfg0.N) (old : Vec Ideal S8x100 .f32) : FVec Ideal S8x100 .f32 :=
  Body.stored (F := Ideal) (grid0.coords t) (iblk m c 0 t) (iblk m c 1 t) (iblk m c 2 t) (iblk m c 3 t) (iblk m c 4 t)
    (iblk m c 5 t) (iblk m c 6 t) (iblk m c 7 t) old

/-- The body's result at an index: a row of the point's half is the sum of its two parts, another row is what it was. -/
theorem left8_apply (c : Dev nD) (t : Fin cfg0.N) (old : Vec Ideal S8x100 .f32) (r : Fin 8) (a : Fin 100) :
    left8 m c t old (ix2 r a)
      = if r.val / 4 = t.val % 2 then score m c ⟨8 * (t.val / 2) + r.val, by have := lt16 t; omega⟩ a else old (ix2 r a) := by
  have e := Payload.of_blocks ⟨t.val, lt16 t⟩ _ _ _ _ _ _ _ (iblk m c 0 t) (iblk m c 1 t)
    (View.ld (iblk m c 2 t) (Rect.unit (s := S64x1024) (k0_off1 (grid0.coords t)) S8x1024.size (k0_off1_inb (grid0.coords t))))
    (iblk m c 3 t) (iblk m c 4 t) (iblk m c 5 t) (iblk m c 6 t) (iblk m c 7 t) old
    (left m c t) (right m c t) (tokens m c t) (gateW m c t) (gateB m c t) (linW m c t) (linB m c t) (scale m c t) r a
  unfold left8 Body.stored
  rw [coord t]
  exact e

end Cert.KernelIdeal.Blocks

end
-- ==== Proof.Run.lean ====
/- The run of the idealized kernel. Two consecutive grid points share one block of the output, and the body reads the block
   before anything was stored in it; so of the output's buffer only a property is kept: after point `t` its rows up to the end of
   the point's half hold the images' scores. -/
module

public import proofs.«01_k».proof.Proof.Blocks
public import Idealize.ShloMosaic.Lib.Pipeline.ArrRel
public import Idealize.ShloMosaic.Lib.Pipeline.DatRel

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- The one output window is held to a property instead of being named. -/
def loose : Fin 9 → Bool := fun w => w.val == 8

/-- The property: after point `t` the rows up to the end of the point's half of the block are the scores of the block's images. -/
def Half (c : Dev nD) (t : Fin cfg0.N) (X : Vec Ideal S8x100 .f32) : Prop :=
  ∀ (r : Fin 8) (a : Fin 100), r.val / 4 ≤ t.val % 2 →
    X (ix2 r a) = Blocks.score m c ⟨8 * (t.val / 2) + r.val, by have := Blocks.lt16 t; omega⟩ a

/-- `Half` for the output's window, nothing for the others. -/
def held (c : Dev nD) (w : Fin cfg0.W) (t : Fin cfg0.N) : ((cfg0.win w).block.Idx → Elt Ideal (cfg0.win w).elt) → Prop :=
  match w with
  | ⟨8, _⟩ => fun X => Half m c t X
  | _ => fun _ => True

/-- The pipeline's data on core `c`: the arrays as the region finds them, each input's buffer at its block after every point. -/
def dat (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q w := Pipeline.shareOf spec0 w
  owed _ := 0

/-- The same data with the output held to `Half`. -/
abbrev rdat (c : Dev nD) : RDat τ (Elt Ideal) Unit ℕ (UR sig nD τ) ℕ cfg0 c := (dat m c).toRRel loose (held m c)

/-- The data's arrays are the region's. -/
theorem dat_A (c : Dev nD) (w : Fin cfg0.W) : (dat m c).A w = V m c (Pipeline.arrRef spec0 w) := by dsimp only [dat]

/-- The body leaves input 0's block in its buffer. -/
theorem after_0 (c : Dev nD) (t : Fin cfg0.N) : (dat m c).after 0 t = iblk m c 0 t := by dsimp only [dat]
/-- The body leaves input 1's block in its buffer. -/
theorem after_1 (c : Dev nD) (t : Fin cfg0.N) : (dat m c).after 1 t = iblk m c 1 t := by dsimp only [dat]
/-- The body leaves input 2's block in its buffer. -/
theorem after_2 (c : Dev nD) (t : Fin cfg0.N) : (dat m c).after 2 t = iblk m c 2 t := by dsimp only [dat]
/-- The body leaves input 3's block in its buffer. -/
theorem after_3 (c : Dev nD) (t : Fin cfg0.N) : (dat m c).after 3 t = iblk m c 3 t := by dsimp only [dat]
/-- The body leaves input 4's block in its buffer. -/
theorem after_4 (c : Dev nD) (t : Fin cfg0.N) : (dat m c).after 4 t = iblk m c 4 t := by dsimp only [dat]
/-- The body leaves input 5's block in its buffer. -/
theorem after_5 (c : Dev nD) (t : Fin cfg0.N) : (dat m c).after 5 t = iblk m c 5 t := by dsimp only [dat]
/-- The body leaves input 6's block in its buffer. -/
theorem after_6 (c : Dev nD) (t : Fin cfg0.N) : (dat m c).after 6 t = iblk m c 6 t := by dsimp only [dat]
/-- The body leaves input 7's block in its buffer. -/
theorem after_7 (c : Dev nD) (t : Fin cfg0.N) : (dat m c).after 7 t = iblk m c 7 t := by dsimp only [dat]

/-- The body finds input 0's block in its buffer. -/
theorem before_0 (c : Dev nD) (t : Fin cfg0.N) (d) : (dat m c).before 0 t d = iblk m c 0 t :=
  before0_0_of m (dat m c) (dat_A m c 0) (after_0 m c) t d
/-- The body finds input 1's block in its buffer. -/
theorem before_1 (c : Dev nD) (t : Fin cfg0.N) (d) : (dat m c).before 1 t d = iblk m c 1 t :=
  before0_1_of m (dat m c) (dat_A m c 1) (after_1 m c) t d
/-- The body finds input 2's block in its buffer. -/
theorem before_2 (c : Dev nD) (t : Fin cfg0.N) (d) : (dat m c).before 2 t d = iblk m c 2 t :=
  before0_2_of m (dat m c) (dat_A m c 2) (after_2 m c) t d
/-- The body finds input 3's block in its buffer. -/
theorem before_3 (c : Dev nD) (t : Fin cfg0.N) (d) : (dat m c).before 3 t d = iblk m c 3 t :=
  before0_3_of m (dat m c) (dat_A m c 3) (after_3 m c) t d
/-- The body finds input 4's block in its buffer. -/
theorem before_4 (c : Dev nD) (t : Fin cfg0.N) (d) : (dat m c).before 4 t d = iblk m c 4 t :=
  before0_4_of m (dat m c) (dat_A m c 4) (after_4 m c) t d
/-- The body finds input 5's block in its buffer. -/
theorem before_5 (c : Dev nD) (t : Fin cfg0.N) (d) : (dat m c).before 5 t d = iblk m c 5 t :=
  before0_5_of m (dat m c) (dat_A m c 5) (after_5 m c) t d
/-- The body finds input 6's block in its buffer. -/
theorem before_6 (c : Dev nD) (t : Fin cfg0.N) (d) : (dat m c).before 6 t d = iblk m c 6 t :=
  before0_6_of m (dat m c) (dat_A m c 6) (after_6 m c) t d
/-- The body finds input 7's block in its buffer. -/
theorem before_7 (c : Dev nD) (t : Fin cfg0.N) (d) : (dat m c).before 7 t d = iblk m c 7 t :=
  before0_7_of m (dat m c) (dat_A m c 7) (after_7 m c) t d

/-! ## One point -/

/-- At an odd point the output's buffer is what the even point before it left: nothing was written back between them. -/
theorem found (c : Dev nD) (t : Fin cfg0.N) (ht : t.val % 2 = 1) (Y : Vec Ideal S8x100 .f32)
    (hY : (rdat m c).Finds 8 t Y) : Half m c ⟨t.val - 1, Nat.lt_of_le_of_lt (Nat.sub_le _ _) t.isLt⟩ Y := by
  rcases ((rdat m c).finds_of_pos (w := 8) (t := t) rfl (by omega) Y).mp hY with h | h
  · exact absurd ((flush0_8 _).mp h) (by show ¬ (t.val - 1) % 2 = 1; omega)
  · exact (dat m c).toRRel_leaves (fgt := loose) (Rl := held m c) (w := 8) rfl h

/-- What the body leaves has the property, whatever it may have found. -/
theorem half_step (c : Dev nD) (t : Fin cfg0.N) (Y : Vec Ideal S8x100 .f32) (hY : (rdat m c).Finds 8 t Y) :
    Half m c t (Blocks.left8 m c t Y) := by
  intro r a hr
  rw [Blocks.left8_apply]
  by_cases h : r.val / 4 = t.val % 2
  · rw [if_pos h]
  · rw [if_neg h]
    have hp := found m c t (by omega) Y hY r a (by show r.val / 4 ≤ (t.val - 1) % 2; omega)
    refine hp.trans (congrArg (fun b => Blocks.score m c b a) (Fin.ext ?_))
    show 8 * ((t.val - 1) / 2) + r.val = 8 * (t.val / 2) + r.val
    omega

/-- What the body is called with at point `t`, window by window. -/
def pre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d))
    ∗ (∃ d, owns (c : Thread nD τ) (st0_7 t) fullShare ((dat m c).before 7 t d))
    ∗ (∃ Y, ⌜(rdat m c).Finds 8 t Y⌝ ∗ owns (c : Thread nD τ) (st0_8 t) fullShare Y))

/-- What it returns. -/
def post (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ owns (c : Thread nD τ) (st0_6 t) fullShare ((dat m c).after 6 t)
    ∗ owns (c : Thread nD τ) (st0_7 t) fullShare ((dat m c).after 7 t)
    ∗ (∃ X, ⌜held m c 8 t X⌝ ∗ owns (c : Thread nD τ) (st0_8 t) fullShare X))

set_option maxHeartbeats 1000000 in
/-- The body at any point takes the one to the other. -/
theorem point (c : Dev nD) (t : Fin cfg0.N) :
    pre m c t ⊢ wp frame (wpE (defs₀ (F := Ideal)) Variants.none c none) Set.univ (bodyAt0 t) (fun _ => post m c t) := by
  unfold pre post bodyAt0
  simp only [before_0, before_1, before_2, before_3, before_4, before_5, before_6, before_7]
  rw [show (dat m c).Φ t.succ = (dat m c).Φ t.castSucc from rfl,
    show (dat m c).owesAt () t.succ = (dat m c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%Y, %hY, H8⟩⟩
  iapply ((Body.triple c (grid0.coords t) _ _ _ _ _ _ _ _ _ _ _ _ _ _ _ _ _ _ (iblk m c 0 t) (iblk m c 1 t) (iblk m c 2 t)
    (iblk m c 3 t) (iblk m c 4 t) (iblk m c 5 t) (iblk m c 6 t) (iblk m c 7 t) Y) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists (Blocks.left8 m c t Y)
  isplitr
  · ipureintro; exact half_step m c t Y hY
  · iexact H8

/-- The body table's row at a point is the body there. -/
theorem row (t : Fin cfg0.N) : defs₀ (F := Ideal) .tc cfg0.body (cfg0.bodyArgs t (cfg0.slots t)) = bodyAt0 t := by
  unfold defs₀; rw [Defs.onTc_tc]

/-- The body obligation at every point. -/
theorem obligation (c : Dev nD) :
    BodyObligationRel (dat m c) (defs₀ (F := Ideal)) Variants.none () Set.univ loose (held m c) := fun t => by
  rw [bigSep_W0, bigSep_W0, row]
  exact triple_restated (point m c t) rfl .rfl fun _ => .rfl

/-! ## The launch -/

set_option backward.isDefEq.respectTransparency.types false in
/-- Every fair execution ends, every array holds what the data allow and every counter is zero. -/
theorem launch : θ_run defs (onTc (τ := τ) (main (F := Ideal))) (s₀ m ρ)
    (fun r => RDat.FramePost (cfgs 0) (rdat m) (V m) r ∧ r.2.sem = fun _ => 0) :=
  Pipeline.RDat.θ_run_frame_track_shared cfgs (0 : Fin 1) launch₀0 defs₀ Variants.none (rdat m) m ρ main
    (hbody := fun c => (obligation m c).toRRel) (hq := fun _ _ _ => rfl) (howed := fun _ _ => rfl) (V := V m)
    (hmain := hmain m Variants.none) (hA := dat_A m) (hin := fun _ => .rfl) (hout := fun _ => .rfl) (Q' := _)

end Cert.KernelIdeal.Run

end
-- ==== Proof.Value.lean ====
/- What the idealized kernel's run ends with: the argument arrays as they were, the result the array of scores. -/
module

public import proofs.«01_k».proof.Proof.Run

@[expose] public section

set_option maxRecDepth 16384

noncomputable section

namespace Cert.KernelIdeal.Final

open Cert.KernelIdeal Cert.KernelIdeal.Gen
open Idealize.ShloMosaic Idealize.ShloMosaic.TcCoe
open Idealize.SL Idealize.SL.Sem
open Idealize.ShloMosaic.Rounds
open Idealize.ShloMosaic.Pipeline (Dat RDat)

variable (m : (ℓ : Loc nD τ sig) → Buf (Elt Ideal) ℓ) (ρ : Dev nD → PrngReg)

/-- Where the output's block of a point lies: eight rows from row `8 * (t / 2)` on, every column. -/
theorem idx8 : ∀ t : Fin grid0.N, win0_8.index t 0 = t.val / 2 ∧ win0_8.index t 1 = 0 := by decide +kernel

/-- The array of scores of core `c`'s arguments. -/
def scores (c : Dev nD) : FVec Ideal S64x100 .f32 :=
  Cert.Spec.scores (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- At a point that is written back the whole block holds the scores. -/
theorem whole (c : Dev nD) (t : Fin cfg0.N) (ht : t.val % 2 = 1) (X : Vec Ideal S8x100 .f32) (hX : Run.Half m c t X)
    (r : Fin 8) (a : Fin 100) :
    X (ix2 r a) = scores m c (ix2 ⟨8 * (t.val / 2) + r.val, by have := Blocks.lt16 t; omega⟩ a) :=
  hX r a (by omega)

/-- The output's array after the last point, of ANY contents of the buffer that have the property at each point written back. -/
theorem array (c : Dev nD) (after : (w : Fin cfg0.W) → Fin cfg0.N → (cfg0.win w).block.Idx → Elt Ideal (cfg0.win w).elt)
    (h : ∀ u : Fin cfg0.N, (cfg0.win 8).flush u = true → Run.Half m c u (after 8 u)) :
    ((Run.rdat m c).withAfter after).arrAt 8 cfg0.N = scores m c := by
  have key : ∀ (t : Fin cfg0.N), t.val % 2 = 1 → ∀ (X : Vec Ideal S8x100 .f32), Run.Half m c t X → ∀ y : S8x100.Idx,
      X y = scores m c ((win0_8.blk t).view.emb y) := by
    intro t ht X hX y
    idx_vars y
    refine (whole m c t ht X hX y0 y1).trans (?_ : _ = scores m c ((win0_8.blk t).view.emb (ix2 y0 y1)))
    blk_ext [idx8 t]
  refine ((Run.rdat m c).withAfter after).arrAt_eq_of_covers 8 (scores m c) (by decide +kernel) fun t hf y => ?_
  blk_simp
  exact key t ((flush0_8 t).mp hf) (after 8 t) (h t hf) y

/-- Every fair execution of the idealized kernel ends with the scores in the result's array, the arguments as they were and every
    counter at zero. -/
theorem ends : θ_run defs (onTc (τ := τ) (main (F := Ideal))) ⟨m, fun _ => 0, ρ⟩ (fun r =>
    (∀ c : Dev nD, r.2.mem ((c.tc : Thread nD τ).loc main_v3) = scores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => ?_, h.2⟩) (Run.launch m ρ)
  have hp := h.1
  refine ⟨?_, (RDat.FramePost.arr_in hp c 1 rfl).trans ((Run.dat_A m c 1).trans (V_main_arg0 m c)),
    (RDat.FramePost.arr_in hp c 2 rfl).trans ((Run.dat_A m c 2).trans (V_main_arg1 m c)),
    (RDat.FramePost.arr_in hp c 3 rfl).trans ((Run.dat_A m c 3).trans (V_main_arg2 m c)),
    ((hp c).2 main_arg3 (Pipeline.mem_restRefs_of main_arg3 (by decide) (by decide))).trans (V_main_arg3 m c),
    (RDat.FramePost.arr_in hp c 5 rfl).trans ((Run.dat_A m c 5).trans (V_main_arg4 m c)),
    ((hp c).2 main_arg5 (Pipeline.mem_restRefs_of main_arg5 (by decide) (by decide))).trans (V_main_arg5 m c),
    ((hp c).2 main_arg6 (Pipeline.mem_restRefs_of main_arg6 (by decide) (by decide))).trans (V_main_arg6 m c)⟩
  obtain ⟨after, hL, hA⟩ := RDat.FramePost.exists_exact hp c
  exact (hA 8).trans (array m c after fun u hu =>
    (Run.dat m c).toRRel_leaves (fgt := Run.loose) (Rl := Run.held m c) (w := 8) rfl (hL 8 u hu))

end Cert.KernelIdeal.Final

end
-- ==== Proof.lean ====
/- The proof of the five claims: the two kernels and the reference run and leave their arguments and counters as they found
   them, the idealized kernel is the kernel with one constant named, and the idealized kernel and the reference give equal
   results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.RefValue
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as compiled runs, keeps its arguments and ends with every counter at zero. -/
theorem kernel_frame : @Cert.quiescent_Kernel Cert.Kernel.Gen.facts := fun m ρ _ => Cert.Kernel.Forget.ends m ρ

/-- So does the idealized kernel. -/
theorem ideal_frame : @Cert.quiescent_KernelIdeal Cert.KernelIdeal.Gen.facts := fun m ρ _ =>
  (θ_run Cert.KernelIdeal.defs _ _).mono (fun _ h => ⟨fun c => (h.1 c).2, h.2⟩) (Cert.KernelIdeal.Final.ends m ρ)

/-- So does the reference, which has no semaphore. -/
theorem reference_frame : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run m ρ)

/-- The constant the kernel multiplies by stands for the real number 1/589824. -/
theorem constant_named : Cert.preserves_Kernel_KernelIdeal :=
  IdealRules.named_const.statement Cert.KernelIdeal.κ "mean" .f32 0x35E38E39#32 ((589824⁻¹ : ℝ) : EReal) rfl

/-- From the same arguments the idealized kernel and the reference both end with the array of scores. -/
theorem equal_scores :
    @Cert.algebraic_KernelIdeal_ReferenceIdeal Cert.KernelIdeal.Gen.facts Cert.ReferenceIdeal.Gen.facts := by
  intro m ρ m' ρ' _ hagree
  refine ⟨fun c => Cert.KernelIdeal.Final.scores m c,
    (θ_run Cert.KernelIdeal.defs _ _).mono (fun _ h => h.1) (Cert.KernelIdeal.Final.ends m ρ),
    (θ_run Cert.ReferenceIdeal.defs _ _).mono (fun r h c => ⟨?_, (h c).2⟩) (Cert.ReferenceIdeal.Value.run m' ρ')⟩
  obtain ⟨h0, h1, h2, h3, h4, h5, h6⟩ := hagree c
  refine (h c).1.trans ((Cert.ReferenceIdeal.Scores.term_eq _ _ _ _ _ _ _).trans ?_)
  rw [h0, h1, h2, h3, h4, h5, h6]
  rfl

/-- All the claims. -/
theorem claim : Cert.Claim :=
  ⟨Cert.Kernel.Gen.facts, Cert.KernelIdeal.Gen.facts, Cert.ReferenceIdeal.Gen.facts,
    kernel_frame, ideal_frame, reference_frame, constant_named, equal_scores⟩

end Cert.Proof

end
